-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v52)) (v1 : (c : Dev Cert.Kernel.nD) → Buf (Elt Bits) ((c.tc : Thread Cert.Kernel.nD Cert.Kernel.τ).loc Cert.Kernel.main_v41)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v52) = v0 c
          ∧ r.2.mem ((c.tc : Thread Cert.Kernel.nD Cert.Kernel.τ).loc Cert.Kernel.main_v41) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v51) = v0 c
          ∧ r.2.mem ((c.tc : Thread Cert.Reference.nD Cert.Reference.τ).loc Cert.Reference.main_v40) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x512 : Shape := ⟨2, ![4096, 512]⟩
abbrev S100000x512 : Shape := ⟨2, ![100000, 512]⟩
abbrev S100000x64 : Shape := ⟨2, ![100000, 64]⟩
abbrev S_ : Shape := ⟨0, ![]⟩
abbrev S4096 : Shape := ⟨1, ![4096]⟩
abbrev S4096x1 : Shape := ⟨2, ![4096, 1]⟩
abbrev S100000 : Shape := ⟨1, ![100000]⟩
abbrev S100000x1 : Shape := ⟨2, ![100000, 1]⟩
abbrev S512x100000 : Shape := ⟨2, ![512, 100000]⟩
abbrev S4096x100000 : Shape := ⟨2, ![4096, 100000]⟩
abbrev S4096x20 : Shape := ⟨2, ![4096, 20]⟩
abbrev S4096x20x1 : Shape := ⟨3, ![4096, 20, 1]⟩
abbrev S4096x20x64 : Shape := ⟨3, ![4096, 20, 64]⟩

abbrev nBuf : Space → Nat
  | .hbm => 127
  | .vmem => 2
  | .smem => 0
  | _ => 0

abbrev bufTy : (tb : Table) → Fin (tcTables nBuf tb) → BufTy
  | .hbm, ⟨0, _⟩ => ⟨S4096x512, .f32⟩
  | .hbm, ⟨1, _⟩ => ⟨S100000x512, .f32⟩
  | .hbm, ⟨2, _⟩ => ⟨S100000x64, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .i32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S_, .i32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x512, .f32⟩
  | .hbm, ⟨66, _⟩ => ⟨S100000x512, .f32⟩
  | .hbm, ⟨67, _⟩ => ⟨S100000x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S100000, .f32⟩
  | .hbm, ⟨73, _⟩ => ⟨S100000x1, .f32⟩
  | .hbm, ⟨74, _⟩ => ⟨S100000x1, .f32⟩
  | .hbm, ⟨75, _⟩ => ⟨S100000x1, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S100000x1, .f32⟩
  | .hbm, ⟨81, _⟩ => ⟨S100000x1, .f32⟩
  | .hbm, ⟨82, _⟩ => ⟨S100000x1, .f32⟩
  | .hbm, ⟨83, _⟩ => ⟨S_, .f32⟩
  | .hbm, ⟨84, _⟩ => ⟨S100000x1, .f32⟩
  | .hbm, ⟨85, _⟩ => ⟨S100000x1, .f32⟩
  | .hbm, ⟨86, _⟩ => ⟨S100000x512, .f32⟩
  | .hbm, ⟨87, _⟩ => ⟨S100000x512, .f32⟩
  | .hbm, ⟨88, _⟩ => ⟨S100000x512, .f32⟩
  | .hbm, ⟨89, _⟩ => ⟨S100000x512, .f32⟩
  | .hbm, ⟨90, _⟩ => ⟨S100000x512, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S100000x512, .f32⟩
  | .hbm, ⟨99, _⟩ => ⟨S100000x512, .f32⟩
  | .hbm, ⟨100, _⟩ => ⟨S512x100000, .f32⟩
  | .hbm, ⟨101, _⟩ => ⟨S4096x100000, .f32⟩
  | .hbm, ⟨102, _⟩ => ⟨S4096x20, .f32⟩
  | .hbm, ⟨103, _⟩ => ⟨S4096x20, .i32⟩
  | .hbm, ⟨104, _⟩ => ⟨S_, .i32⟩
  | .hbm, ⟨105, _⟩ => ⟨S4096x20, .i32⟩
  | .hbm, ⟨106, _⟩ => ⟨S4096x20, .i1⟩
  | .hbm, ⟨107, _⟩ => ⟨S_, .i32⟩
  | .hbm, ⟨108, _⟩ => ⟨S4096x20, .i32⟩
  | .hbm, ⟨109, _⟩ => ⟨S4096x20, .i32⟩
  | .hbm, ⟨110, _⟩ => ⟨S4096x20, .i32⟩
  | .hbm, ⟨111, _⟩ => ⟨S4096x20x1, .i32⟩
  | .hbm, ⟨112, _⟩ => ⟨S4096x20x64, .f32⟩
  | .hbm, ⟨113, _⟩ => ⟨S_, .f32⟩
  | .hbm, ⟨114, _⟩ => ⟨S4096, .f32⟩
  | .hbm, ⟨115, _⟩ => ⟨S_, .f32⟩
  | .hbm, ⟨116, _⟩ => ⟨S4096, .f32⟩
  | .hbm, ⟨117, _⟩ => ⟨S4096, .f32⟩
  | .hbm, ⟨118, _⟩ => ⟨S4096x1, .f32⟩
  | .hbm, ⟨119, _⟩ => ⟨S4096x20, .f32⟩
  | .hbm, ⟨120, _⟩ => ⟨S4096x20, .f32⟩
  | .hbm, ⟨121, _⟩ => ⟨S4096x20, .f32⟩
  | .hbm, ⟨122, _⟩ => ⟨S_, .f32⟩
  | .hbm, ⟨123, _⟩ => ⟨S4096, .f32⟩
  | .hbm, ⟨124, _⟩ => ⟨S4096x1, .f32⟩
  | .hbm, ⟨125, _⟩ => ⟨S4096x20, .f32⟩
  | .hbm, ⟨126, _⟩ => ⟨S4096x20, .f32⟩
  | .local _ .vmem, ⟨0, _⟩ => ⟨S4096x512, .f32⟩
  | .local _ .vmem, ⟨1, _⟩ => ⟨S4096x512, .f32⟩
  | _, _ => ⟨S4096x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_cst_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_cst_1 : Ref sig .tc := ⟨.hbm, 21, rfl⟩
abbrev main_call0_call0_v8 : Ref sig .tc := ⟨.hbm, 22, rfl⟩
abbrev main_call0_call0_cst_2 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_v12 : Ref sig .tc := ⟨.hbm, 27, rfl⟩
abbrev main_call0_call0_cst_3 : Ref sig .tc := ⟨.hbm, 28, rfl⟩
abbrev main_call0_call0_v13 : Ref sig .tc := ⟨.hbm, 29, rfl⟩
abbrev main_call0_call0_cst_4 : Ref sig .tc := ⟨.hbm, 30, rfl⟩
abbrev main_call0_call0_call0_v0 : Ref sig .tc := ⟨.hbm, 31, rfl⟩
abbrev main_call0_call0_call0_v1 : Ref sig .tc := ⟨.hbm, 32, rfl⟩
abbrev main_call0_v0 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_3 : Ref sig .tc := ⟨.hbm, 52, rfl⟩
abbrev main_v17 : Ref sig .tc := ⟨.hbm, 53, rfl⟩
abbrev main_v18 : Ref sig .tc := ⟨.hbm, 54, rfl⟩
abbrev main_cst_4 : Ref sig .tc := ⟨.hbm, 55, rfl⟩
abbrev main_v19 : Ref sig .tc := ⟨.hbm, 56, rfl⟩
abbrev main_v20 : Ref sig .tc := ⟨.hbm, 57, rfl⟩
abbrev main_c_5 : Ref sig .tc := ⟨.hbm, 58, rfl⟩
abbrev main_call2_call0_cst : Ref sig .tc := ⟨.hbm, 59, rfl⟩
abbrev main_call2_call0_v0 : Ref sig .tc := ⟨.hbm, 60, rfl⟩
abbrev main_call2_call0_v1 : Ref sig .tc := ⟨.hbm, 61, rfl⟩
abbrev main_call2_call0_cst_0 : Ref sig .tc := ⟨.hbm, 62, rfl⟩
abbrev main_call2_call0_v2 : Ref sig .tc := ⟨.hbm, 63, rfl⟩
abbrev main_call2_call0_v3 : Ref sig .tc := ⟨.hbm, 64, rfl⟩
abbrev main_call2_call0_v4 : Ref sig .tc := ⟨.hbm, 65, rfl⟩
abbrev main_call2_call0_v5 : Ref sig .tc := ⟨.hbm, 66, rfl⟩
abbrev main_call2_call0_v6 : Ref sig .tc := ⟨.hbm, 67, rfl⟩
abbrev main_call2_call0_v7 : Ref sig .tc := ⟨.hbm, 68, rfl⟩
abbrev main_call2_call0_cst_1 : Ref sig .tc := ⟨.hbm, 69, rfl⟩
abbrev main_call2_call0_v8 : Ref sig .tc := ⟨.hbm, 70, rfl⟩
abbrev main_call2_call0_cst_2 : Ref sig .tc := ⟨.hbm, 71, rfl⟩
abbrev main_call2_call0_v9 : Ref sig .tc := ⟨.hbm, 72, rfl⟩
abbrev main_call2_call0_v10 : Ref sig .tc := ⟨.hbm, 73, rfl⟩
abbrev main_call2_call0_v11 : Ref sig .tc := ⟨.hbm, 74, rfl⟩
abbrev main_call2_call0_v12 : Ref sig .tc := ⟨.hbm, 75, rfl⟩
abbrev main_call2_call0_cst_3 : Ref sig .tc := ⟨.hbm, 76, rfl⟩
abbrev main_call2_call0_v13 : Ref sig .tc := ⟨.hbm, 77, rfl⟩
abbrev main_call2_call0_cst_4 : Ref sig .tc := ⟨.hbm, 78, rfl⟩
abbrev main_call2_call0_call0_v0 : Ref sig .tc := ⟨.hbm, 79, rfl⟩
abbrev main_call2_call0_call0_v1 : Ref sig .tc := ⟨.hbm, 80, rfl⟩
abbrev main_call2_v0 : Ref sig .tc := ⟨.hbm, 81, rfl⟩
abbrev main_v21 : Ref sig .tc := ⟨.hbm, 82, rfl⟩
abbrev main_cst_6 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_call3_v0 : Ref sig .tc := ⟨.hbm, 90, rfl⟩
abbrev main_call3_cst : Ref sig .tc := ⟨.hbm, 91, rfl⟩
abbrev main_call3_v1 : Ref sig .tc := ⟨.hbm, 92, rfl⟩
abbrev main_call3_v2 : Ref sig .tc := ⟨.hbm, 93, rfl⟩
abbrev main_v28 : Ref sig .tc := ⟨.hbm, 94, rfl⟩
abbrev main_cst_7 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_values : Ref sig .tc := ⟨.hbm, 102, rfl⟩
abbrev main_indices : Ref sig .tc := ⟨.hbm, 103, rfl⟩
abbrev main_c_8 : Ref sig .tc := ⟨.hbm, 104, rfl⟩
abbrev main_v35 : Ref sig .tc := ⟨.hbm, 105, rfl⟩
abbrev main_v36 : Ref sig .tc := ⟨.hbm, 106, rfl⟩
abbrev main_c_9 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_cst_10 : Ref sig .tc := ⟨.hbm, 113, rfl⟩
abbrev main_v42 : Ref sig .tc := ⟨.hbm, 114, rfl⟩
abbrev main_cst_11 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_cst_12 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S4096x512 : Shape := ⟨2, ![4096, 512]⟩
abbrev S100000x512 : Shape := ⟨2, ![100000, 512]⟩
abbrev S100000x64 : Shape := ⟨2, ![100000, 64]⟩
abbrev S_ : Shape := ⟨0, ![]⟩
abbrev S100000 : Shape := ⟨1, ![100000]⟩
abbrev S100000x1 : Shape := ⟨2, ![100000, 1]⟩
abbrev S4096 : Shape := ⟨1, ![4096]⟩
abbrev S4096x1 : Shape := ⟨2, ![4096, 1]⟩
abbrev S512x100000 : Shape := ⟨2, ![512, 100000]⟩
abbrev S4096x100000 : Shape := ⟨2, ![4096, 100000]⟩
abbrev S4096x20 : Shape := ⟨2, ![4096, 20]⟩
abbrev S4096x20x1 : Shape := ⟨3, ![4096, 20, 1]⟩
abbrev S4096x20x64 : Shape := ⟨3, ![4096, 20, 64]⟩

abbrev nBuf : Space → Nat
  | .hbm => 126
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S100000x512, .f32⟩
  | .hbm, ⟨2, _⟩ => ⟨S100000x64, .f32⟩
  | .hbm, ⟨3, _⟩ => ⟨S_, .f32⟩
  | .hbm, ⟨4, _⟩ => ⟨S100000, .f32⟩
  | .hbm, ⟨5, _⟩ => ⟨S100000x1, .f32⟩
  | .hbm, ⟨6, _⟩ => ⟨S_, .f32⟩
  | .hbm, ⟨7, _⟩ => ⟨S100000x1, .f32⟩
  | .hbm, ⟨8, _⟩ => ⟨S100000x1, .f32⟩
  | .hbm, ⟨9, _⟩ => ⟨S_, .i32⟩
  | .hbm, ⟨10, _⟩ => ⟨S_, .f32⟩
  | .hbm, ⟨11, _⟩ => ⟨S100000, .f32⟩
  | .hbm, ⟨12, _⟩ => ⟨S100000x1, .f32⟩
  | .hbm, ⟨13, _⟩ => ⟨S_, .f32⟩
  | .hbm, ⟨14, _⟩ => ⟨S100000x1, .f32⟩
  | .hbm, ⟨15, _⟩ => ⟨S100000x1, .f32⟩
  | .hbm, ⟨16, _⟩ => ⟨S100000x512, .f32⟩
  | .hbm, ⟨17, _⟩ => ⟨S100000x512, .f32⟩
  | .hbm, ⟨18, _⟩ => ⟨S100000x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000x1, .f32⟩
  | .hbm, ⟨25, _⟩ => ⟨S100000x1, .f32⟩
  | .hbm, ⟨26, _⟩ => ⟨S100000x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S100000x1, .f32⟩
  | .hbm, ⟨32, _⟩ => ⟨S100000x1, .f32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x512, .f32⟩
  | .hbm, ⟨38, _⟩ => ⟨S100000x512, .f32⟩
  | .hbm, ⟨39, _⟩ => ⟨S100000x512, .f32⟩
  | .hbm, ⟨40, _⟩ => ⟨S100000x512, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .i32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x512, .f32⟩
  | .hbm, ⟨88, _⟩ => ⟨S4096x512, .f32⟩
  | .hbm, ⟨89, _⟩ => ⟨S100000x512, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S_, .f32⟩
  | .hbm, ⟨95, _⟩ => ⟨S100000x1, .f32⟩
  | .hbm, ⟨96, _⟩ => ⟨S100000x1, .f32⟩
  | .hbm, ⟨97, _⟩ => ⟨S100000x512, .f32⟩
  | .hbm, ⟨98, _⟩ => ⟨S100000x512, .f32⟩
  | .hbm, ⟨99, _⟩ => ⟨S512x100000, .f32⟩
  | .hbm, ⟨100, _⟩ => ⟨S4096x100000, .f32⟩
  | .hbm, ⟨101, _⟩ => ⟨S4096x20, .f32⟩
  | .hbm, ⟨102, _⟩ => ⟨S4096x20, .i32⟩
  | .hbm, ⟨103, _⟩ => ⟨S_, .i32⟩
  | .hbm, ⟨104, _⟩ => ⟨S4096x20, .i32⟩
  | .hbm, ⟨105, _⟩ => ⟨S4096x20, .i1⟩
  | .hbm, ⟨106, _⟩ => ⟨S_, .i32⟩
  | .hbm, ⟨107, _⟩ => ⟨S4096x20, .i32⟩
  | .hbm, ⟨108, _⟩ => ⟨S4096x20, .i32⟩
  | .hbm, ⟨109, _⟩ => ⟨S4096x20, .i32⟩
  | .hbm, ⟨110, _⟩ => ⟨S4096x20x1, .i32⟩
  | .hbm, ⟨111, _⟩ => ⟨S4096x20x64, .f32⟩
  | .hbm, ⟨112, _⟩ => ⟨S_, .f32⟩
  | .hbm, ⟨113, _⟩ => ⟨S4096, .f32⟩
  | .hbm, ⟨114, _⟩ => ⟨S_, .f32⟩
  | .hbm, ⟨115, _⟩ => ⟨S4096, .f32⟩
  | .hbm, ⟨116, _⟩ => ⟨S4096, .f32⟩
  | .hbm, ⟨117, _⟩ => ⟨S4096x1, .f32⟩
  | .hbm, ⟨118, _⟩ => ⟨S4096x20, .f32⟩
  | .hbm, ⟨119, _⟩ => ⟨S4096x20, .f32⟩
  | .hbm, ⟨120, _⟩ => ⟨S4096x20, .f32⟩
  | .hbm, ⟨121, _⟩ => ⟨S_, .f32⟩
  | .hbm, ⟨122, _⟩ => ⟨S4096, .f32⟩
  | .hbm, ⟨123, _⟩ => ⟨S4096x1, .f32⟩
  | .hbm, ⟨124, _⟩ => ⟨S4096x20, .f32⟩
  | .hbm, ⟨125, _⟩ => ⟨S4096x20, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_cst_0 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_cst_1 : Ref sig .tc := ⟨.hbm, 20, rfl⟩
abbrev main_call0_call0_v8 : Ref sig .tc := ⟨.hbm, 21, rfl⟩
abbrev main_call0_call0_cst_2 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_v12 : Ref sig .tc := ⟨.hbm, 26, rfl⟩
abbrev main_call0_call0_cst_3 : Ref sig .tc := ⟨.hbm, 27, rfl⟩
abbrev main_call0_call0_v13 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_cst_3 : Ref sig .tc := ⟨.hbm, 44, rfl⟩
abbrev main_v13 : Ref sig .tc := ⟨.hbm, 45, rfl⟩
abbrev main_v14 : Ref sig .tc := ⟨.hbm, 46, rfl⟩
abbrev main_c_4 : Ref sig .tc := ⟨.hbm, 47, rfl⟩
abbrev main_call1_call0_cst : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_call0_cst_0 : Ref sig .tc := ⟨.hbm, 51, rfl⟩
abbrev main_call1_call0_v2 : Ref sig .tc := ⟨.hbm, 52, rfl⟩
abbrev main_call1_call0_v3 : Ref sig .tc := ⟨.hbm, 53, rfl⟩
abbrev main_call1_call0_v4 : Ref sig .tc := ⟨.hbm, 54, rfl⟩
abbrev main_call1_call0_v5 : Ref sig .tc := ⟨.hbm, 55, rfl⟩
abbrev main_call1_call0_v6 : Ref sig .tc := ⟨.hbm, 56, rfl⟩
abbrev main_call1_call0_v7 : Ref sig .tc := ⟨.hbm, 57, rfl⟩
abbrev main_call1_call0_cst_1 : Ref sig .tc := ⟨.hbm, 58, rfl⟩
abbrev main_call1_call0_v8 : Ref sig .tc := ⟨.hbm, 59, rfl⟩
abbrev main_call1_call0_cst_2 : Ref sig .tc := ⟨.hbm, 60, rfl⟩
abbrev main_call1_call0_v9 : Ref sig .tc := ⟨.hbm, 61, rfl⟩
abbrev main_call1_call0_v10 : Ref sig .tc := ⟨.hbm, 62, rfl⟩
abbrev main_call1_call0_v11 : Ref sig .tc := ⟨.hbm, 63, rfl⟩
abbrev main_call1_call0_v12 : Ref sig .tc := ⟨.hbm, 64, rfl⟩
abbrev main_call1_call0_cst_3 : Ref sig .tc := ⟨.hbm, 65, rfl⟩
abbrev main_call1_call0_v13 : Ref sig .tc := ⟨.hbm, 66, rfl⟩
abbrev main_call1_call0_cst_4 : Ref sig .tc := ⟨.hbm, 67, rfl⟩
abbrev main_call1_call0_call0_v0 : Ref sig .tc := ⟨.hbm, 68, rfl⟩
abbrev main_call1_call0_call0_v1 : Ref sig .tc := ⟨.hbm, 69, rfl⟩
abbrev main_call1_v0 : Ref sig .tc := ⟨.hbm, 70, rfl⟩
abbrev main_v15 : Ref sig .tc := ⟨.hbm, 71, rfl⟩
abbrev main_cst_5 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_call2_v0 : Ref sig .tc := ⟨.hbm, 79, rfl⟩
abbrev main_call2_cst : Ref sig .tc := ⟨.hbm, 80, rfl⟩
abbrev main_call2_v1 : Ref sig .tc := ⟨.hbm, 81, rfl⟩
abbrev main_call2_v2 : Ref sig .tc := ⟨.hbm, 82, rfl⟩
abbrev main_v22 : Ref sig .tc := ⟨.hbm, 83, rfl⟩
abbrev main_cst_6 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_call3_v0 : Ref sig .tc := ⟨.hbm, 89, rfl⟩
abbrev main_call3_cst : Ref sig .tc := ⟨.hbm, 90, rfl⟩
abbrev main_call3_v1 : Ref sig .tc := ⟨.hbm, 91, rfl⟩
abbrev main_call3_v2 : Ref sig .tc := ⟨.hbm, 92, rfl⟩
abbrev main_v27 : Ref sig .tc := ⟨.hbm, 93, rfl⟩
abbrev main_cst_7 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_values : Ref sig .tc := ⟨.hbm, 101, rfl⟩
abbrev main_indices : Ref sig .tc := ⟨.hbm, 102, rfl⟩
abbrev main_c_8 : Ref sig .tc := ⟨.hbm, 103, rfl⟩
abbrev main_v34 : Ref sig .tc := ⟨.hbm, 104, rfl⟩
abbrev main_v35 : Ref sig .tc := ⟨.hbm, 105, rfl⟩
abbrev main_c_9 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_cst_10 : Ref sig .tc := ⟨.hbm, 112, rfl⟩
abbrev main_v41 : Ref sig .tc := ⟨.hbm, 113, rfl⟩
abbrev main_cst_11 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_cst_12 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩

abbrev nD : Nat := 1
abbrev τ : Topo := Topo.v7x

variable {F : FTy → Type} [FloatOps F]
-- ==== Proof.Retrieval.lean ====
/- The function that kernel and reference compute, written once over named steps and over any float values `F`:
   each row of a table of features is standardized (mean taken off, divided by the sample deviation) and scaled to
   unit length; every query row is compared with every training row by the dot product; the twenty best training
   rows per query are chosen; their scores become weights by a softmax and their labels are gathered. -/
module

public import Idealize.ShloMosaic.Lib.StableHlo
public import Idealize.ShloMosaic.PureOps

@[expose] public section

noncomputable section

namespace Retrieval

open Idealize.ShloMosaic Idealize.SL.Sem

/-- A single number, `n` numbers, a column of `n` numbers, and an `n × k` table. -/
abbrev One : Shape := ⟨0, ![]⟩
abbrev Line (n : Nat) : Shape := ⟨1, ![n]⟩
abbrev Table (n k : Nat) : Shape := ⟨2, ![n, k]⟩
abbrev Cube (n k l : Nat) : Shape := ⟨3, ![n, k, l]⟩

/-- What the row-wise steps on an `n × k` table need of the shapes: its rows sum to `n` numbers, which stand as a
    column and repeat along the rows. -/
structure RowFacts (n k : Nat) : Prop where
  sums : (Table n k).ReducesTo [1] (Line n)
  column : (Line n).BroadcastsInDim (Table n 1) (![0] : Fin 1 → Fin (Table n 1).rank)
  everyRow : One.BroadcastsInDim (Table n 1) (![] : Fin 0 → Fin (Table n 1).rank)
  along : (Table n 1).BroadcastsInDim (Table n k) (![0, 1] : Fin 2 → Fin (Table n k).rank)

theorem one_pos : 0 < One.numel := by decide

theorem queryFacts : RowFacts 4096 512 := ⟨by decide, by decide, by decide, by decide⟩
theorem trainFacts : RowFacts 100000 512 := ⟨by decide, by decide, by decide, by decide⟩
theorem scoreFacts : RowFacts 4096 20 := ⟨by decide, by decide, by decide, by decide⟩

variable {F : FTy → Type} [FloatOps F]

section Rows

variable {n k : Nat} (h : RowFacts n k)

/-- The sum of each row, as a column. -/
def rowSum (x : Vec F (Table n k) .f32) : Vec F (Table n 1) .f32 :=
  broadcastInDim (Table n 1) ![0] h.column (Host.reduceAdd x (constant One .f32 0x00000000#32) h.sums one_pos)

/-- One number in every row of a column. -/
def filled (a : Vec F One .f32) : Vec F (Table n 1) .f32 := broadcastInDim (Table n 1) ![] h.everyRow a

/-- A column repeated along the rows. -/
def spread (a : Vec F (Table n 1) .f32) : Vec F (Table n k) .f32 := broadcastInDim (Table n k) ![0, 1] h.along a

/-- The mean of each row of 512 numbers. -/
def rowMean (x : Vec F (Table n k) .f32) : Vec F (Table n 1) .f32 :=
  Host.divf (rowSum h x) (filled h (constant One .f32 0x44000000#32))

/-- The divisor of the sample variance, 512 − 1. -/
def freedom : Vec F One .f32 := subf (constant One .f32 0x44000000#32) (sitofp .f32 (constantI One 32 1#32))

/-- The sample variance of each row: the squared distances from the mean, summed and divided by `freedom` (which is
    asked to be positive, and a NaN stands for the quotient if it is not). -/
def rowVar (x : Vec F (Table n k) .f32) : Vec F (Table n 1) .f32 :=
  let d := subf x (spread h (rowMean h x))
  select (broadcastInDim (Table n 1) ![] h.everyRow (cmpf .ogt (freedom (F := F)) (constant One .f32 0x00000000#32)))
    (Host.divf (rowSum h (mulf d d)) (filled h freedom)) (filled h (constant One .f32 0x7FC00000#32))

/-- Each row with its mean taken off, divided by its sample deviation plus 1e-6. -/
def standardized (x : Vec F (Table n k) .f32) : Vec F (Table n k) .f32 :=
  Host.divf (subf x (spread h (rowMean h x)))
    (spread h (addf (Host.sqrt (rowVar h x)) (filled h (constant One .f32 0x358637BD#32))))

/-- Each row divided by its Euclidean length, or by 1e-12 if that is larger. -/
def unitLength (x : Vec F (Table n k) .f32) : Vec F (Table n k) .f32 :=
  Host.divf x (spread h (maximumf (Host.sqrt (rowSum h (mulf x x))) (filled h (constant One .f32 0x2B8CBCCC#32))))

end Rows

/-- The product of the queries (4096 × 512) with the transposed training rows (512 × 100000). -/
def productDims : DotDims (Table 4096 512) (Table 512 100000) (Table 4096 100000) where
  lhsContracting := [1]
  rhsContracting := [0]
  lhsNonContracting := [0]
  rhsNonContracting := [1]
  lhsBatch := []
  rhsBatch := []
  wf := by decide

/-- One label row of 64 numbers for each chosen index. -/
def labelDims : GatherDims (Table 100000 64) (Cube 4096 20 1) (Cube 4096 20 64) where
  offsetDims := [2]
  collapsedSliceDims := [0]
  operandBatchingDims := []
  startIndicesBatchingDims := []
  startIndexMap := [0]
  indexVectorDim := 2
  sliceSizes := ![1, 64]
  wf := by decide

theorem transposed : (Table 100000 512).Transposes [1, 0] (Table 512 100000) := by decide
theorem twenty : (Table 4096 100000).Slices (fun _ => 0) (Table 4096 20) := by decide
theorem everyChoice : One.BroadcastsInDim (Table 4096 20) (![] : Fin 0 → Fin (Table 4096 20).rank) := by decide
theorem asIndex : (Table 4096 20).BroadcastsInDim (Cube 4096 20 1) (![0, 1] : Fin 2 → Fin (Cube 4096 20 1).rank) := by decide
theorem everyQuery : One.BroadcastsInDim (Line 4096) (![] : Fin 0 → Fin (Line 4096).rank) := by decide

/-- The similarity of every query with every training row: the dot products of the encoded, unit-length rows. -/
def similarities (x : Vec F (Table 4096 512) .f32) (X : Vec F (Table 100000 512) .f32) : Vec F (Table 4096 100000) .f32 :=
  Host.dotGeneral productDims none (unitLength queryFacts (standardized queryFacts x))
    (transpose (Table 512 100000) [1, 0] (unitLength trainFacts (standardized trainFacts X)) transposed)

/-- Each query's twenty largest similarities, in descending order, and the training rows where they stand. -/
def best (x : Vec F (Table 4096 512) .f32) (X : Vec F (Table 100000 512) .f32) :
    Vec F (Table 4096 20) .f32 × Vec F (Table 4096 20) .i32 :=
  Host.topK (Table 4096 20) 1 (FloatOps.cmpfTotal .gt) (similarities x X) twenty

/-- The softmax of each row of twenty scores, the row's maximum taken off before the exponential. -/
def softmax (s : Vec F (Table 4096 20) .f32) : Vec F (Table 4096 20) .f32 :=
  let top := maximumf (broadcastInDim (Line 4096) ![] everyQuery (constant One .f32 0xFF800000#32))
    (Host.reduce FloatOps.maximumf s (constant One .f32 0xFF800000#32) scoreFacts.sums one_pos)
  let e := Host.exp (subf s (spread scoreFacts (broadcastInDim (Table 4096 1) ![0] scoreFacts.column top)))
  Host.divf e (spread scoreFacts (rowSum scoreFacts e))

/-- The first result: the weights of the twenty chosen training rows. -/
def weights (x : Vec F (Table 4096 512) .f32) (X : Vec F (Table 100000 512) .f32) : Vec F (Table 4096 20) .f32 :=
  softmax (best x X).1

/-- The label rows at chosen positions; a negative position counts from the end of the table. -/
def labelsAt (Y : Vec F (Table 100000 64) .f32) (i : Vec F (Table 4096 20) .i32) : Vec F (Cube 4096 20 64) .f32 :=
  Host.gather labelDims Y (broadcastInDim (Cube 4096 20 1) ![0, 1] asIndex
    (select (cmpi .slt i (broadcastInDim (Table 4096 20) ![] everyChoice (constantI One 32 0#32)))
      (addi i (broadcastInDim (Table 4096 20) ![] everyChoice (constantI One 32 100000#32))) i))

/-- The second result: the labels of the twenty chosen training rows. -/
def labels (x : Vec F (Table 4096 512) .f32) (X : Vec F (Table 100000 512) .f32) (Y : Vec F (Table 100000 64) .f32) :
    Vec F (Cube 4096 20 64) .f32 :=
  labelsAt Y (best x X).2

end Retrieval

end
-- ==== Proof.KernelValue.lean ====
/- What the kernel's program leaves in its two results: its one region copies the queries, and the host operations
   after the region compute the retrieval's weights and labels from that copy. -/
module

public import proofs.«01_k».proof.Proof.Gen.KernelIdeal.Frame
public import proofs.«01_k».proof.Proof.Retrieval
public import Idealize.ShloMosaic.Lib.Pipeline.ValueKit
public import Idealize.ShloMosaic.Lib.StableHlo.Run
public import Idealize.ShloMosaic.Lib.Claim

@[expose] public section

noncomputable section

namespace Cert.KernelIdeal.RetrievalValue

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-! ## The region: a copy -/

section Copy

variable (m : (ℓ : Loc nD τ sig) → Buf (Elt F) ℓ) (c : Dev nD)

theorem index_zero : ∀ t : Fin cfg0.N, win0_0.index t = ![0, 0] ∧ win0_1.index t = ![0, 0] :=
  (by decide +kernel : ∀ t : Fin grid0.N, _)

/-- The body's one input block is all of the queries. -/
theorem block_whole : iblk m c 0 t0_0 = m ((c : Thread nD τ).loc main_arg0) := by
  blk_ext! [iblk, V, index_zero t0_0]

/-- The region's result array ends as a copy of the queries. -/
theorem copied : (dats m 0 c).arrAt 1 cfg0.N = m ((c : Thread nD τ).loc main_arg0) := by
  refine (dats m 0 c).arrAt_eq_of_after_last 1 t0_0 (by decide +kernel) _ fun j => ?_
  blk_simp
  rw [after0_1]
  frame_out
  rw [block_whole]

end Copy

/-! ## The host operations after the region -/

section Tail

/-- All host operations after the region, in order. -/
abbrev tail : List (HloOp τ sig (Elt F)) :=
  List.flatten [hostOps1, hostOps1_1, hostOps1_2, hostOps1_3, hostOps1_4, hostOps1_5, hostOps1_6, hostOps1_7, hostOps1_8]

variable (W : Valuation τ sig (Elt F))

set_option maxRecDepth 8192 in
set_option maxHeartbeats 4000000 in
/-- From any contents, the first result is the weights of the region's result and the training rows. -/
theorem tail_weights : after tail W (Proc.devRef .tc main_v52)
    = Retrieval.weights (W (Proc.devRef .tc main_v0)) (W (Proc.devRef .tc main_arg1)) := by
  simp only [tail, List.flatten_cons, List.flatten_nil, List.append_nil, List.cons_append, List.nil_append,
    TRef.binary, TRef.nullary, TRef.ternary, TRef.unary, TRef.toBuf, TRef.ofBuf, cast_eq]
  after_results_simp
  rfl

set_option maxRecDepth 8192 in
set_option maxHeartbeats 4000000 in
/-- From any contents, the second result is the labels of the same choice. -/
theorem tail_labels : after tail W (Proc.devRef .tc main_v41)
    = Retrieval.labels (W (Proc.devRef .tc main_v0)) (W (Proc.devRef .tc main_arg1)) (W (Proc.devRef .tc main_arg2)) := by
  simp only [tail, List.flatten_cons, List.flatten_nil, List.append_nil, List.cons_append, List.nil_append,
    TRef.binary, TRef.nullary, TRef.ternary, TRef.unary, TRef.toBuf, TRef.ofBuf, cast_eq]
  after_results_simp
  rfl

end Tail

/-! ## The whole program -/

section Run

variable (m : (ℓ : Loc nD τ sig) → Buf (Elt F) ℓ) (c : Dev nD)

/-- What the region leaves: its arrays as the copy left them, every other buffer as launched. -/
abbrev afterCopy : Valuation τ sig (Elt F) :=
  Pipeline.withArrays spec0 c (V0 m c) fun w => (dats m 0 c).arrAt w cfg0.N

/-- After the region its result array holds the queries, -/
theorem afterCopy_v0 : afterCopy m c (Proc.devRef .tc main_v0) = m ((c : Thread nD τ).loc main_arg0) :=
  (Pipeline.withArrays_arr spec0 (by decide) c (V0 m c) (fun w => (dats m 0 c).arrAt w cfg0.N) 1).trans (copied m c)

/-- the training rows are as launched, -/
theorem afterCopy_arg1 : afterCopy m c (Proc.devRef .tc main_arg1) = m ((c : Thread nD τ).loc main_arg1) :=
  (Pipeline.withArrays_of_ne spec0 c (V0 m c) _ main_arg1 (by decide)).trans (V_main_arg1 m c)

/-- and so are the labels. -/
theorem afterCopy_arg2 : afterCopy m c (Proc.devRef .tc main_arg2) = m ((c : Thread nD τ).loc main_arg2) :=
  (Pipeline.withArrays_of_ne spec0 c (V0 m c) _ main_arg2 (by decide)).trans (V_main_arg2 m c)

/-- The first result at the end of the program, of the program's arguments. -/
theorem weights_eq : after tail (afterCopy m c) (Proc.devRef .tc main_v52)
    = Retrieval.weights (m ((c : Thread nD τ).loc main_arg0)) (m ((c : Thread nD τ).loc main_arg1)) := by
  rw [tail_weights, afterCopy_v0, afterCopy_arg1]

/-- The second result at the end of the program, of the program's arguments. -/
theorem labels_eq : after tail (afterCopy m c) (Proc.devRef .tc main_v41)
    = Retrieval.labels (m ((c : Thread nD τ).loc main_arg0)) (m ((c : Thread nD τ).loc main_arg1))
        (m ((c : Thread nD τ).loc main_arg2)) := by
  rw [tail_labels, afterCopy_v0, afterCopy_arg1, afterCopy_arg2]

/-- Every weakly fair execution ends with the retrieval's weights and labels of the arguments in the two results, and
    the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v52)
          = Retrieval.weights (m ((c.tc : Thread nD τ).loc main_arg0)) (m ((c.tc : Thread nD τ).loc main_arg1))
      ∧ r.2.mem ((c.tc : Thread nD τ).loc main_v41)
          = Retrieval.labels (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c =>
      ⟨((h.1 c).2 main_v52 (Pipeline.mem_restRefs_of main_v52 (by decide) (by decide))).trans (weights_eq m c),
        ((h.1 c).2 main_v41 (Pipeline.mem_restRefs_of main_v41 (by decide) (by decide))).trans (labels_eq m c),
        h.2 c⟩)
    (θ_run_and (run_main m ρ) (unchanged m ρ))

end Run

end Cert.KernelIdeal.RetrievalValue

end
-- ==== Proof.ReferenceWords.lean ====
/- The reference over float words: its two results are the retrieval's weights and labels. -/
module

public import proofs.«01_k».proof.Proof.Gen.Reference.Run
public import proofs.«01_k».proof.Proof.Retrieval

@[expose] public section

noncomputable section

namespace Cert.Reference.Value

open Cert.Reference Idealize.ShloMosaic Idealize.SL.Sem

variable {F : FTy → Type} [FloatOps F] (m : (ℓ : Loc nD τ sig) → Buf (Elt F) ℓ) (c : Dev nD)

/-- The reference's first result is the retrieval's weights of its arguments. -/
theorem weights_eq : res_out0 m c
    = Retrieval.weights (m ((c.tc : Thread nD τ).loc main_arg0)) (m ((c.tc : Thread nD τ).loc main_arg1)) := by
  unfold res_out0 res_main_v51
  rfl

/-- The reference's second result is the labels of the same choice. -/
theorem labels_eq : res_out1 m c
    = Retrieval.labels (m ((c.tc : Thread nD τ).loc main_arg0)) (m ((c.tc : Thread nD τ).loc main_arg1))
        (m ((c.tc : Thread nD τ).loc main_arg2)) := by
  unfold res_out1 res_main_v40
  rfl

end Cert.Reference.Value

end
-- ==== Proof.ReferenceValue.lean ====
/- The reference's two results are the retrieval's weights and labels. -/
module

public import proofs.«01_k».proof.Proof.Gen.ReferenceIdeal.Run
public import proofs.«01_k».proof.Proof.Retrieval

@[expose] public section

noncomputable section

namespace Cert.ReferenceIdeal.Value

open Cert.ReferenceIdeal Idealize.ShloMosaic Idealize.SL.Sem

variable {F : FTy → Type} [FloatOps F] (m : (ℓ : Loc nD τ sig) → Buf (Elt F) ℓ) (c : Dev nD)

/-- The reference's first result is the retrieval's weights of its arguments. -/
theorem weights_eq : res_out0 m c
    = Retrieval.weights (m ((c.tc : Thread nD τ).loc main_arg0)) (m ((c.tc : Thread nD τ).loc main_arg1)) := by
  unfold res_out0 res_main_v51
  rfl

/-- The reference's second result is the labels of the same choice. -/
theorem labels_eq : res_out1 m c
    = Retrieval.labels (m ((c.tc : Thread nD τ).loc main_arg0)) (m ((c.tc : Thread nD τ).loc main_arg1))
        (m ((c.tc : Thread nD τ).loc main_arg2)) := by
  unfold res_out1 res_main_v40
  rfl

end Cert.ReferenceIdeal.Value

end
-- ==== Proof.lean ====
/- The proof of every claim about the retrieval kernel and its reference: both run and leave their arguments unchanged,
   the ideal kernel is the kernel's own text read over the extended reals, and the two results of kernel and
   reference agree, over the extended reals and word for word over floats. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.ReferenceIdeal.Run
public import proofs.«01_k».proof.Proof.Gen.Reference.Run
public import proofs.«01_k».proof.Proof.KernelValue
public import proofs.«01_k».proof.Proof.KernelWords
public import proofs.«01_k».proof.Proof.ReferenceWords
public import proofs.«01_k».proof.Proof.ReferenceValue
public import Idealize.ShloMosaic.Lib.Claim
public import Idealize.ShloMosaic.Adequacy
public import Idealize.ShloMosaic.Init

@[expose] public section

noncomputable section

namespace Cert.Proof

open Idealize.ShloMosaic Idealize.SL.Sem

/-- The reference runs and leaves its arguments unchanged, and it declares no semaphore whose counter could differ from
    zero. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- Over the extended reals kernel and reference end with the same weights and the same labels. -/
theorem algebraic : Cert.algebraic_KernelIdeal_ReferenceIdeal := by
  intro m g m' g' _ hagree
  refine ⟨_, _, Cert.KernelIdeal.RetrievalValue.run m g,
    (θ_run _ _ _).mono (fun r h c => ?_) (Cert.ReferenceIdeal.Value.run m' g')⟩
  obtain ⟨h0, h1, ha⟩ := h c
  obtain ⟨e0, e1, e2⟩ := hagree c
  refine ⟨h0.trans ((Cert.ReferenceIdeal.Value.weights_eq m' c).trans ?_),
    h1.trans ((Cert.ReferenceIdeal.Value.labels_eq m' c).trans ?_), ha⟩
  · rw [e0, e1]
  · rw [e0, e1, e2]

/-- The same of the reference over float words. -/
theorem reference_words_frame : Cert.quiescent_Reference := fun m ρ _ =>
  (θ_run Cert.Reference.defs _ _).mono (fun r h => ⟨fun c => (h c).2.2, sem_eq_zero_of_no_sems (by decide) r.2⟩)
    (Cert.Reference.Value.run m ρ)

/-- Over float words, whatever the float operations do, kernel and reference end with the same words in both results. -/
theorem bitexact : Cert.bitexact_Kernel_Reference := by
  intro m g m' g' _ hagree
  refine ⟨_, _, Cert.Kernel.RetrievalValue.run m g,
    (θ_run _ _ _).mono (fun r h c => ?_) (Cert.Reference.Value.run m' g')⟩
  obtain ⟨h0, h1, ha⟩ := h c
  obtain ⟨e0, e1, e2⟩ := hagree c
  refine ⟨h0.trans ((Cert.Reference.Value.weights_eq m' c).trans ?_),
    h1.trans ((Cert.Reference.Value.labels_eq m' c).trans ?_), ha⟩
  · rw [e0, e1]
  · rw [e0, e1, e2]

/-- Everything that is claimed. -/
theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ, reference_frame,
    reference_words_frame, trivial, algebraic, bitexact⟩

end Cert.Proof

end
